-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x3 : Shape := ⟨2, ![16384, 3]⟩
abbrev S_ : Shape := ⟨0, ![]⟩
abbrev S16384x8 : Shape := ⟨2, ![16384, 8]⟩
abbrev S512x3 : Shape := ⟨2, ![512, 3]⟩
abbrev S512 : Shape := ⟨1, ![512]⟩
abbrev S1x1 : Shape := ⟨2, ![1, 1]⟩
abbrev S3x16384 : Shape := ⟨2, ![3, 16384]⟩
abbrev S8x16384 : Shape := ⟨2, ![8, 16384]⟩
abbrev S16384x512 : Shape := ⟨2, ![16384, 512]⟩
abbrev S16384 : Shape := ⟨1, ![16384]⟩
abbrev S3x2048 : Shape := ⟨2, ![3, 2048]⟩
abbrev S8x2048 : Shape := ⟨2, ![8, 2048]⟩
abbrev S2048x512 : Shape := ⟨2, ![2048, 512]⟩
abbrev S2048 : Shape := ⟨1, ![2048]⟩
abbrev S512x1 : Shape := ⟨2, ![512, 1]⟩
abbrev S1x2048 : Shape := ⟨2, ![1, 2048]⟩
abbrev S512x2048 : Shape := ⟨2, ![512, 2048]⟩
abbrev S64x2048 : Shape := ⟨2, ![64, 2048]⟩
abbrev S2048x1 : Shape := ⟨2, ![2048, 1]⟩

abbrev nBuf : Space → Nat
  | .hbm => 17
  | .vmem => 10
  | .smem => 0
  | _ => 0

abbrev bufTy : (tb : Table) → Fin (tcTables nBuf tb) → BufTy
  | .hbm, ⟨0, _⟩ => ⟨S16384x3, .f32⟩
  | .hbm, ⟨1, _⟩ => ⟨S_, .f32⟩
  | .hbm, ⟨2, _⟩ => ⟨S16384x8, .f32⟩
  | .hbm, ⟨3, _⟩ => ⟨S_, .i32⟩
  | .hbm, ⟨4, _⟩ => ⟨S512x3, .f32⟩
  | .hbm, ⟨5, _⟩ => ⟨S512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S3x16384, .f32⟩
  | .hbm, ⟨14, _⟩ => ⟨S8x16384, .f32⟩
  | .hbm, ⟨15, _⟩ => ⟨S16384x512, .f32⟩
  | .hbm, ⟨16, _⟩ => ⟨S16384, .i32⟩
  | .local _ .vmem, ⟨0, _⟩ => ⟨S1x1, .f32⟩
  | .local _ .vmem, ⟨1, _⟩ => ⟨S3x2048, .f32⟩
  | .local _ .vmem, ⟨2, _⟩ => ⟨S3x2048, .f32⟩
  | .local _ .vmem, ⟨3, _⟩ => ⟨S8x2048, .f32⟩
  | .local _ .vmem, ⟨4, _⟩ => ⟨S8x2048, .f32⟩
  | .local _ .vmem, ⟨5, _⟩ => ⟨S512x3, .f32⟩
  | .local _ .vmem, ⟨6, _⟩ => ⟨S2048x512, .f32⟩
  | .local _ .vmem, ⟨7, _⟩ => ⟨S2048x512, .f32⟩
  | .local _ .vmem, ⟨8, _⟩ => ⟨S2048, .i32⟩
  | .local _ .vmem, ⟨9, _⟩ => ⟨S2048, .i32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x3 : Shape := ⟨2, ![16384, 3]⟩
abbrev S_ : Shape := ⟨0, ![]⟩
abbrev S16384x8 : Shape := ⟨2, ![16384, 8]⟩
abbrev S512x3 : Shape := ⟨2, ![512, 3]⟩
abbrev S512 : Shape := ⟨1, ![512]⟩
abbrev S16384x1x3 : Shape := ⟨3, ![16384, 1, 3]⟩
abbrev S1x512x3 : Shape := ⟨3, ![1, 512, 3]⟩
abbrev S16384x512x3 : Shape := ⟨3, ![16384, 512, 3]⟩
abbrev S16384x512 : Shape := ⟨2, ![16384, 512]⟩
abbrev S16384x8x64 : Shape := ⟨3, ![16384, 8, 64]⟩
abbrev S16384 : Shape := ⟨1, ![16384]⟩
abbrev S16384x1 : Shape := ⟨2, ![16384, 1]⟩
abbrev S1x512 : Shape := ⟨2, ![1, 512]⟩

abbrev nBuf : Space → Nat
  | .hbm => 40
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S_, .f32⟩
  | .hbm, ⟨2, _⟩ => ⟨S16384x8, .f32⟩
  | .hbm, ⟨3, _⟩ => ⟨S_, .i32⟩
  | .hbm, ⟨4, _⟩ => ⟨S512x3, .f32⟩
  | .hbm, ⟨5, _⟩ => ⟨S512, .f32⟩
  | .hbm, ⟨6, _⟩ => ⟨S16384x1x3, .f32⟩
  | .hbm, ⟨7, _⟩ => ⟨S1x512x3, .f32⟩
  | .hbm, ⟨8, _⟩ => ⟨S16384x512x3, .f32⟩
  | .hbm, ⟨9, _⟩ => ⟨S16384x512x3, .f32⟩
  | .hbm, ⟨10, _⟩ => ⟨S16384x512x3, .f32⟩
  | .hbm, ⟨11, _⟩ => ⟨S16384x512x3, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x8x64, .f32⟩
  | .hbm, ⟨23, _⟩ => ⟨S16384x512, .f32⟩
  | .hbm, ⟨24, _⟩ => ⟨S_, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .i32⟩
  | .hbm, ⟨30, _⟩ => ⟨S_, .f32⟩
  | .hbm, ⟨31, _⟩ => ⟨S_, .i32⟩
  | .hbm, ⟨32, _⟩ => ⟨S16384, .f32⟩
  | .hbm, ⟨33, _⟩ => ⟨S16384, .i32⟩
  | .hbm, ⟨34, _⟩ => ⟨S16384x1, .i32⟩
  | .hbm, ⟨35, _⟩ => ⟨S1x512, .i32⟩
  | .hbm, ⟨36, _⟩ => ⟨S16384x512, .i32⟩
  | .hbm, ⟨37, _⟩ => ⟨S16384x512, .i32⟩
  | .hbm, ⟨38, _⟩ => ⟨S16384x512, .i1⟩
  | .hbm, ⟨39, _⟩ => ⟨S16384x512, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v19 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Proof.RefRun.lean ====
/-
  THE REFERENCE'S RUN: its main function is a straight line of host operations (`ops`, the two local functions in place), so every
  buffer ends at the operations' results folded over the launch contents. Here that fold is read at the two result buffers, as
  `choice` and `oneHot` of the table `logits`, and at the six arguments, which no operation writes.
-/
module

public import proofs.«01_k».proof.Proof.Gen.ReferenceIdeal
public import Idealize.ShloMosaic.Lib.StableHlo.Run
public import Idealize.ShloMosaic.Lib.Quiescent

@[expose] public section

noncomputable section

namespace Cert.Router.Ref

open Cert.ReferenceIdeal Cert.ReferenceIdeal.Gen
open Idealize.ShloMosaic Idealize.ShloMosaic.TcCoe Idealize.ShloMosaic.StableHlo Idealize.SL.Sem

variable {F : FTy → Type} [FloatOps F]

/-- The squared distances of every token from every centre: the differences, squared and summed over the three coordinates. -/
def dist2 (pos : FVec F S16384x3 .f32) (ctr : FVec F S512x3 .f32) : FVec F S16384x512 .f32 :=
  let d : FVec F S16384x512x3 .f32 :=
    subf (broadcastInDim S16384x512x3 ![0, 1, 2] bcast_S16384x1x3_S16384x512x3_0_1_2
        (broadcastInDim S16384x1x3 ![0, 2] bcast_S16384x3_S16384x1x3_0_2 pos))
      (broadcastInDim S16384x512x3 ![0, 1, 2] bcast_S1x512x3_S16384x512x3_0_1_2
        (broadcastInDim S1x512x3 ![1, 2] bcast_S512x3_S1x512x3_1_2 ctr))
  Host.reduceAdd (mulf d d) (constant S_ .f32 0x00000000#32) reducesTo_S16384x512x3_S16384x512_d2 h_S_

/-- The scale: twice the temperature's square, plus a small constant. -/
def scale (t : FVec F S_ .f32) : FVec F S_ .f32 :=
  addf (mulf (constant S_ .f32 0x40000000#32) (mulf t t)) (constant S_ .f32 0x322BCC77#32)

/-- The parent choices, each repeated over its group of 64 experts. -/
def spread (pc : FVec F S16384x8 .f32) : FVec F S16384x512 .f32 :=
  shapeCast S16384x512 (broadcastInDim S16384x8x64 ![0, 1] bcast_S16384x8_S16384x8x64_0_1 pc) shapeCasts_S16384x8x64_S16384x512

/-- The table of logits: the negated squared distance over the scale, plus the logarithm of the parent choice. -/
def logits (pos : FVec F S16384x3 .f32) (t : FVec F S_ .f32) (pc : FVec F S16384x8 .f32) (ctr : FVec F S512x3 .f32) :
    FVec F S16384x512 .f32 :=
  addf (Host.divf (Host.negf (dist2 pos ctr)) (broadcastInDim S16384x512 ![] bcast_S_S16384x512 (scale t)))
    (Host.log (addf (spread pc) (broadcastInDim S16384x512 ![] bcast_S_S16384x512 (constant S_ .f32 0x2EDBE6FF#32))))

/-- Each row's maximum with its index: the host's fold over the pairs of entry and column, from minus infinity and 0. -/
def best (L : FVec F S16384x512 .f32) : S16384.Idx → F .f32 × BitVec 32 :=
  Host.argReduce reducer_argmax_f32_i32 L (iotaInDim S16384x512 32 1) (constant S_ .f32 0xFF800000#32) (constantI S_ 32 0#32)
    reducesTo_S16384x512_S16384_d1 h_S_

/-- The second components of a vector of pairs. -/
def seconds (p : S16384.Idx → F .f32 × BitVec 32) : IVec S16384 32 := fun j => (p j).2

/-- The index of each row's maximum. -/
def choice (L : FVec F S16384x512 .f32) : IVec S16384 32 := seconds (best L)

/-- The indicator rows of a vector of indices. -/
def oneHot (i : IVec S16384 32) : FVec F S16384x512 .f32 :=
  uitofp .f32 (cmpi .eq
    (broadcastInDim S16384x512 ![0, 1] bcast_S16384x1_S16384x512_0_1 (broadcastInDim S16384x1 ![0] bcast_S16384_S16384x1_0 i))
    (broadcastInDim S16384x512 ![0, 1] bcast_S1x512_S16384x512_0_1 (iotaInDim S1x512 32 1)))

/-- The main function's operations, in order; the last eleven are the two local functions'. -/
abbrev ops : List (HloOp τ sig (Elt F)) :=
  [ unary main_arg0 main_v0 (broadcastInDim S16384x1x3 ![0, 2] bcast_S16384x3_S16384x1x3_0_2),
    unary main_arg4 main_v1 (broadcastInDim S1x512x3 ![1, 2] bcast_S512x3_S1x512x3_1_2),
    unary main_v0 main_v2 (broadcastInDim S16384x512x3 ![0, 1, 2] bcast_S16384x1x3_S16384x512x3_0_1_2),
    unary main_v1 main_v3 (broadcastInDim S16384x512x3 ![0, 1, 2] bcast_S1x512x3_S16384x512x3_0_1_2),
    binary main_v2 main_v3 main_v4 subf,
    binary main_v4 main_v4 main_v5 mulf,
    nullary main_cst (constant S_ .f32 0x00000000#32),
    binary main_v5 main_cst main_v6 (fun x v => Host.reduceAdd x v reducesTo_S16384x512x3_S16384x512_d2 h_S_),
    unary main_v6 main_v7 Host.negf,
    binary main_arg1 main_arg1 main_v8 mulf,
    nullary main_cst_0 (constant S_ .f32 0x40000000#32),
    binary main_cst_0 main_v8 main_v9 mulf,
    nullary main_cst_1 (constant S_ .f32 0x322BCC77#32),
    binary main_v9 main_cst_1 main_v10 addf,
    unary main_v10 main_v11 (broadcastInDim S16384x512 ![] bcast_S_S16384x512),
    binary main_v7 main_v11 main_v12 Host.divf,
    unary main_arg2 main_v13 (broadcastInDim S16384x8x64 ![0, 1] bcast_S16384x8_S16384x8x64_0_1),
    reshape main_v13 main_v14 rfl shapeCasts_S16384x8x64_S16384x512,
    nullary main_cst_2 (constant S_ .f32 0x2EDBE6FF#32),
    unary main_cst_2 main_v15 (broadcastInDim S16384x512 ![] bcast_S_S16384x512),
    binary main_v14 main_v15 main_v16 addf,
    unary main_v16 main_v17 Host.log,
    binary main_v12 main_v17 main_v18 addf,
    TRef.nullary main_call0.v0 (iotaInDim S16384x512 32 1),
    TRef.nullary main_call0.cst (constant S_ .f32 0xFF800000#32),
    TRef.nullary main_call0.c (constantI S_ 32 0#32),
    TRef.quaternary (.of main_v18 rfl) main_call0.v0 main_call0.cst main_call0.c main_call0.v1_0
      (fun x y u v j => (Host.argReduce reducer_argmax_f32_i32 x y u v reducesTo_S16384x512_S16384_d1 h_S_ j).1),
    TRef.quaternary (.of main_v18 rfl) main_call0.v0 main_call0.cst main_call0.c main_call0.v1_1
      (fun x y u v j => (Host.argReduce reducer_argmax_f32_i32 x y u v reducesTo_S16384x512_S16384_d1 h_S_ j).2),
    TRef.unary (.of main_v19 rfl) main_call1.v0 (broadcastInDim S16384x1 ![0] bcast_S16384_S16384x1_0),
    TRef.nullary main_call1.v1 (iotaInDim S1x512 32 1),
    TRef.unary main_call1.v0 main_call1.v2 (broadcastInDim S16384x512 ![0, 1] bcast_S16384x1_S16384x512_0_1),
    TRef.unary main_call1.v1 main_call1.v3 (broadcastInDim S16384x512 ![0, 1] bcast_S1x512_S16384x512_0_1),
    TRef.binary main_call1.v2 main_call1.v3 main_call1.v4 (cmpi .eq),
    TRef.unary main_call1.v4 main_call1.v5 (uitofp .f32) ]

/-- The main function is that straight line. -/
theorem main_eq (c : Dev nD) : main (F := F) c = seq ops := by
  simp only [main, fn_argmax.body, fn_one_hot.body, seq, bind_assoc, pure_bind]
  rfl

variable (V : Valuation τ sig (Elt F))

/-- The table of logits of the arguments' contents. -/
abbrev table : FVec F S16384x512 .f32 :=
  logits (V (main_arg0 : DevRef τ sig)) (V (main_arg1 : DevRef τ sig)) (V (main_arg2 : DevRef τ sig)) (V (main_arg4 : DevRef τ sig))

/-- The result of indices is `choice` of the table. -/
theorem after_v19 : after ops V (main_v19 : DevRef τ sig) = choice (table V) := by
  after_results_simp
  rfl

/-- The last six operations, the second local function's, by themselves. -/
abbrev tailOps : List (HloOp τ sig (Elt F)) :=
  [ TRef.unary (.of main_v19 rfl) main_call1.v0 (broadcastInDim S16384x1 ![0] bcast_S16384_S16384x1_0),
    TRef.nullary main_call1.v1 (iotaInDim S1x512 32 1),
    TRef.unary main_call1.v0 main_call1.v2 (broadcastInDim S16384x512 ![0, 1] bcast_S16384x1_S16384x512_0_1),
    TRef.unary main_call1.v1 main_call1.v3 (broadcastInDim S16384x512 ![0, 1] bcast_S1x512_S16384x512_0_1),
    TRef.binary main_call1.v2 main_call1.v3 main_call1.v4 (cmpi .eq),
    TRef.unary main_call1.v4 main_call1.v5 (uitofp .f32) ]

/-- They end the line. -/
theorem ops_split : (ops : List (HloOp τ sig (Elt F))) = ops.take 28 ++ tailOps := rfl

/-- Running a line and then another is running the two in turn. -/
theorem after_line (a b : List (HloOp τ sig (Elt F))) : ∀ W : Valuation τ sig (Elt F), after (a ++ b) W = after b (after a W) :=
  a.recOn (fun _ => rfl) fun _ _ ih W => ih _

/-- They leave the indices alone, -/
theorem tail_v19 : after tailOps V (main_v19 : DevRef τ sig) = V (main_v19 : DevRef τ sig) := by
  after_results_simp

/-- and write their indicator rows. -/
theorem tail_v20 : after tailOps V (main_v20 : DevRef τ sig) = oneHot (V (main_v19 : DevRef τ sig)) := by
  after_results_simp
  rfl

/-- The result of indicator rows is `oneHot` of the result of indices. -/
theorem after_v20 : after ops V (main_v20 : DevRef τ sig) = oneHot (choice (table V)) := by
  rw [← after_v19, ops_split, after_line, tail_v20, tail_v19]

/-- No operation writes argument 0. -/
theorem after_arg0 : after ops V (main_arg0 : DevRef τ sig) = V (main_arg0 : DevRef τ sig) := by
  after_results_simp
/-- No operation writes argument 1. -/
theorem after_arg1 : after ops V (main_arg1 : DevRef τ sig) = V (main_arg1 : DevRef τ sig) := by
  after_results_simp
/-- No operation writes argument 2. -/
theorem after_arg2 : after ops V (main_arg2 : DevRef τ sig) = V (main_arg2 : DevRef τ sig) := by
  after_results_simp
/-- No operation writes argument 3. -/
theorem after_arg3 : after ops V (main_arg3 : DevRef τ sig) = V (main_arg3 : DevRef τ sig) := by
  after_results_simp
/-- No operation writes argument 4. -/
theorem after_arg4 : after ops V (main_arg4 : DevRef τ sig) = V (main_arg4 : DevRef τ sig) := by
  after_results_simp
/-- No operation writes argument 5. -/
theorem after_arg5 : after ops V (main_arg5 : DevRef τ sig) = V (main_arg5 : DevRef τ sig) := by
  after_results_simp

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub ..,
    nullary_bufs_sub .., binary_bufs_sub .., unary_bufs_sub .., binary_bufs_sub .., nullary_bufs_sub ..,
    binary_bufs_sub .., nullary_bufs_sub .., binary_bufs_sub .., unary_bufs_sub .., binary_bufs_sub ..,
    unary_bufs_sub .., reshape_bufs_sub .., nullary_bufs_sub .., unary_bufs_sub .., binary_bufs_sub ..,
    unary_bufs_sub .., binary_bufs_sub .., nullary_bufs_sub .., nullary_bufs_sub .., nullary_bufs_sub ..,
    quaternary_bufs_sub .., quaternary_bufs_sub .., unary_bufs_sub .., nullary_bufs_sub .., unary_bufs_sub ..,
    unary_bufs_sub .., binary_bufs_sub .., unary_bufs_sub ..⟩

/-- From any launch memory with zero counters every run ends; the two results are `oneHot` and `choice` of the table of the
    arguments' launch contents, the arguments are unchanged and every counter is zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v20) = oneHot (choice (table (launchContents m c)))
      ∧ r.2.mem ((c.tc : Thread nD τ).loc main_v19) = choice (table (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => ⟨(h c main_v20).trans (after_v20 _), (h c main_v19).trans (after_v19 _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _)⟩,
      sem_eq_zero_of_no_sems (by decide) r.2⟩)
    (run_seq scopedRefs_eq scopedSems_eq defs main (fun _ => ops) main_eq (fun _ => ops_sub) m ρ)

end Cert.Router.Ref

end
-- ==== Proof.FirstMax.lean ====
/-
  THE FIRST INDEX OF A MAXIMUM, in plain mathematics: for 512 extended reals `f`, `FirstMax f k` says that `f` is largest at
  `k` and smaller at every index before `k`. There is exactly one such `k`. Two computations of it as a 32-bit word:

  * `fold_minsi_eq`: the least, in signed order, of the words "`r` where `f r` equals the maximum of `f`, else 512";
  * `foldl_eq`: a left fold over the pairs `(f r, r)` that keeps the pair with the greater value, and on equal values the one
    with the smaller index, from the pair `(⊥, 0)`.
-/
module

public import Idealize.ShloMosaic.Lib.Pointwise

@[expose] public section

noncomputable section

namespace Cert.Router

open Idealize.ShloMosaic

/-- `f` is largest at `k`, and smaller at every index before `k`. -/
def FirstMax {n : Nat} (f : Fin n → EReal) (k : Fin n) : Prop :=
  (∀ i, f i ≤ f k) ∧ ∀ i, i < k → f i < f k

/-- At most one index is the first maximum. -/
theorem FirstMax.unique {n : Nat} {f : Fin n → EReal} {k l : Fin n} (hk : FirstMax f k) (hl : FirstMax f l) : k = l := by
  rcases lt_trichotomy k l with h | h | h
  · exact absurd (hl.2 k h) (not_lt.mpr (hk.1 l))
  · exact h
  · exact absurd (hk.2 l h) (not_lt.mpr (hl.1 k))

/-- A 32-bit word made of an index below 512 reads back, signed, as that index. -/
theorem toInt_ofNat {i : Nat} (h : i < 512) : (BitVec.ofNat 32 i).toInt = i := by
  rw [BitVec.toInt_ofNat']
  simp only [Int.bmod]
  omega

/-- Two words made of indices below 512 are equal only if the indices are. -/
theorem ofNat_inj (l k : Fin 512) : BitVec.ofNat 32 l.val = BitVec.ofNat 32 k.val ↔ l = k :=
  ⟨fun h => Fin.ext (by have := congrArg BitVec.toInt h; rw [toInt_ofNat l.isLt, toInt_ofNat k.isLt] at this; omega),
    fun h => by rw [h]⟩

/-- The equality of two index words, as a bit. -/
theorem cmpi_eq_bit (l k : Fin 512) :
    IntOp.cmpi .eq (BitVec.ofNat 32 l.val) (BitVec.ofNat 32 k.val) = if l = k then 1#1 else 0#1 := by
  by_cases h : l = k
  · simp [IntOp.cmpi, h]
  · have : BitVec.ofNat 32 l.val ≠ BitVec.ofNat 32 k.val := fun e => h ((ofNat_inj l k).mp e)
    simp only [IntOp.cmpi, beq_eq_false_iff_ne.mpr this, h, if_false]
    rfl

/-- The bit "these two indices are equal" widened to a word and read as a signed integer is 1 or 0. -/
theorem signed_indicator (l k : Fin 512) :
    (FloatOps.sitofp .f32 (BitVec.setWidth 32 (IntOp.cmpi .eq (BitVec.ofNat 32 l.val) (BitVec.ofNat 32 k.val))) : Ideal .f32)
      = if l = k then (1 : EReal) else 0 := by
  rw [cmpi_eq_bit]
  show (((BitVec.setWidth 32 (if l = k then 1#1 else 0#1)).toInt : ℝ) : EReal) = _
  split_ifs <;> simp

/-- The same bit read as an unsigned integer is 1 or 0. -/
theorem unsigned_indicator (l k : Fin 512) :
    (FloatOps.uitofp .f32 (IntOp.cmpi .eq (BitVec.ofNat 32 k.val) (BitVec.ofNat 32 l.val)) : Ideal .f32)
      = if l = k then (1 : EReal) else 0 := by
  rw [cmpi_eq_bit]
  show (((if k = l then 1#1 else 0#1 : BitVec 1).toNat : ℝ) : EReal) = _
  by_cases h : l = k
  · simp [h]
  · simp [h, Ne.symm h]

/-- The signed minimum of two words, read signed, is the lesser of the two. -/
theorem minsi_spec (a b : BitVec 32) :
    (IntOp.minsi a b = a ∨ IntOp.minsi a b = b) ∧ (IntOp.minsi a b).toInt ≤ a.toInt ∧ (IntOp.minsi a b).toInt ≤ b.toInt := by
  simp only [IntOp.minsi, BitVec.slt, decide_eq_true_eq]
  split_ifs with h
  · exact ⟨.inl rfl, le_rfl, h.le⟩
  · exact ⟨.inr rfl, by omega, le_rfl⟩

/-- A fold of the signed minimum is its initial word or one of the words folded, and at most each of those. -/
theorem fold_minsi_spec {ι : Type} (s : Finset ι) (b : BitVec 32) (g : ι → BitVec 32) :
    (s.fold IntOp.minsi b g = b ∨ ∃ i ∈ s, s.fold IntOp.minsi b g = g i)
      ∧ ∀ i ∈ s, (s.fold IntOp.minsi b g).toInt ≤ (g i).toInt := by
  classical
  induction s using Finset.cons_induction with
  | empty => exact ⟨.inl Finset.fold_empty, fun i hi => absurd hi (Finset.notMem_empty i)⟩
  | cons a s ha ih =>
    rw [Finset.fold_cons]
    obtain ⟨hm, hl, hr⟩ := minsi_spec (g a) (s.fold IntOp.minsi b g)
    refine ⟨?_, fun i hi => ?_⟩
    · rcases hm with h | h
      · exact .inr ⟨a, Finset.mem_cons_self a s, h⟩
      · rw [h]
        rcases ih.1 with h' | ⟨i, hi, h'⟩
        · exact .inl h'
        · exact .inr ⟨i, Finset.mem_cons_of_mem hi, h'⟩
    · rcases Finset.mem_cons.mp hi with rfl | hi
      · exact hl
      · exact hr.trans (ih.2 i hi)

/-- The maximum of `f`, folded from `⊥`, is its value at a first maximum. -/
theorem fold_max_eq {n : Nat} {f : Fin n → EReal} {k : Fin n} (hk : FirstMax f k) :
    (Finset.univ : Finset (Fin n)).fold max ⊥ f = f k :=
  le_antisymm (Finset.fold_max_le _ |>.mpr ⟨bot_le, fun i _ => hk.1 i⟩)
    (Finset.le_fold_max _ |>.mpr (.inr ⟨k, Finset.mem_univ k, le_rfl⟩))

/-- THE FIRST WAY: the least of the words "`r` where `f r` is the maximum, else 512" is the word of the first maximum. -/
theorem fold_minsi_eq {f : Fin 512 → EReal} {k : Fin 512} (hk : FirstMax f k) (M : EReal) (hM : M = f k) :
    (Finset.univ : Finset (Fin 512)).fold IntOp.minsi 2147483647#32
        (fun r => if f r = M then BitVec.ofNat 32 r.val else 512#32) = BitVec.ofNat 32 k.val := by
  subst hM
  obtain ⟨hm, hle⟩ := fold_minsi_spec Finset.univ 2147483647#32 (fun r : Fin 512 => if f r = f k then BitVec.ofNat 32 r.val else 512#32)
  have hk' := hle k (Finset.mem_univ k)
  have hkl := k.isLt
  simp only [if_true] at hk'
  rw [toInt_ofNat hkl] at hk'
  rcases hm with h | ⟨i, -, h⟩
  · rw [h] at hk'
    have : (2147483647#32 : BitVec 32).toInt = 2147483647 := by decide
    omega
  · rw [h] at hk' ⊢
    by_cases hi : f i = f k
    · simp only [hi, if_true] at hk' ⊢
      rw [toInt_ofNat i.isLt] at hk'
      have hik : ¬ i < k := fun hlt => (hk.2 i hlt).ne hi
      have : i = k := le_antisymm (by show i.val ≤ k.val; omega) (not_lt.mp hik)
      rw [this]
    · simp only [hi, if_false] at hk'
      have : (512#32 : BitVec 32).toInt = 512 := by decide
      omega

/-- One step of the second way: of two (value, index) pairs the one with the greater value, and on equal values the one with the
    index that is smaller in signed order. -/
def pick (a b : EReal × BitVec 32) : EReal × BitVec 32 :=
  (if b.1 < a.1 then a.1 else b.1, if b.1 < a.1 ∨ (a.1 = b.1 ∧ a.2.toInt < b.2.toInt) then a.2 else b.2)

/-- Over the first `n` indices the fold holds the value and the index of the first maximum among them. -/
theorem foldl_range (f : Nat → EReal) : ∀ n, n < 512 → ∃ k, k ≤ n
    ∧ ((List.range (n + 1)).map fun i => (f i, BitVec.ofNat 32 i)).foldl pick (⊥, 0#32) = (f k, BitVec.ofNat 32 k)
    ∧ (∀ i ≤ n, f i ≤ f k) ∧ ∀ i < k, f i < f k
  | 0, _ => by
    refine ⟨0, le_rfl, ?_, fun i hi => ?_, fun i hi => absurd hi (Nat.not_lt_zero i)⟩
    · simp [pick]
    · obtain rfl : i = 0 := by omega
      exact le_rfl
  | n + 1, hn => by
    obtain ⟨k, hkn, hf, hmax, hfirst⟩ := foldl_range f n (by omega)
    rw [List.range_succ, List.map_append, List.foldl_append, hf]
    simp only [List.map_cons, List.map_nil, List.foldl_cons, List.foldl_nil]
    have hlt : (BitVec.ofNat 32 k).toInt < (BitVec.ofNat 32 (n + 1)).toInt := by
      rw [toInt_ofNat (by omega), toInt_ofNat hn]; omega
    rcases lt_or_ge (f k) (f (n + 1)) with h | h
    · refine ⟨n + 1, le_rfl, ?_, fun i hi => ?_, fun i hi => (hmax i (by omega)).trans_lt h⟩
      · simp only [pick, not_lt.mpr h.le, h.ne, if_false, false_and, or_false]
      · rcases Nat.lt_or_ge i (n + 1) with hi' | hi'
        · exact (hmax i (by omega)).trans h.le
        · obtain rfl : i = n + 1 := by omega
          exact le_rfl
    · refine ⟨k, by omega, ?_, fun i hi => ?_, hfirst⟩
      · rcases h.lt_or_eq with h' | h'
        · simp only [pick, h', if_true, true_or]
        · simp only [pick, h', lt_self_iff_false, if_false, false_or, true_and, hlt, if_true]
      · rcases Nat.lt_or_ge i (n + 1) with hi' | hi'
        · exact hmax i (by omega)
        · obtain rfl : i = n + 1 := by omega
          exact h

/-- THE SECOND WAY, and that there is a first maximum: the fold over all 512 pairs ends at the first maximum's value and index. -/
theorem foldl_eq (f : Fin 512 → EReal) : ∃ k, FirstMax f k
    ∧ ((List.finRange 512).map fun r => (f r, BitVec.ofNat 32 r.val)).foldl pick (⊥, 0#32) = (f k, BitVec.ofNat 32 k.val) := by
  let f' : Nat → EReal := fun i => if h : i < 512 then f ⟨i, h⟩ else ⊥
  have hf' : ∀ r : Fin 512, f' r.val = f r := fun r => by simp only [f', r.isLt, dif_pos]
  obtain ⟨k, hk, hfold, hmax, hfirst⟩ := foldl_range f' 511 (by omega)
  refine ⟨⟨k, by omega⟩, ⟨fun i => ?_, fun i hi => ?_⟩, ?_⟩
  · have := hmax i.val (by omega); rwa [hf' i, hf' ⟨k, by omega⟩] at this
  · have := hfirst i.val hi; rwa [hf' i, hf' ⟨k, by omega⟩] at this
  · have hl : ((List.finRange 512).map fun r => (f r, BitVec.ofNat 32 r.val))
        = (List.range (511 + 1)).map fun i => (f' i, BitVec.ofNat 32 i) := by
      rw [show (511 + 1) = 512 from rfl, ← List.map_coe_finRange_eq_range, List.map_map]
      exact List.map_congr_left fun r _ => by simp only [Function.comp, hf']
    rw [hl, hfold, ← hf' ⟨k, by omega⟩]

end Cert.Router

end
-- ==== Proof.Score.lean ====
/-
  THE SCORE of an expert for a token, over the extended reals, and the two ways the programs spell it: the reference divides the
  negated squared distance by the scale, the kernel the squared distance by the negated scale. The scale is twice a square plus a
  positive constant, never zero, so the two quotients agree (`div_negated_scale`); over the extended reals a quotient by zero
  depends on the numerator's sign only, and they would not.
-/
module

public import proofs.«01_k».proof.Proof.FirstMax

@[expose] public section

noncomputable section

namespace Cert.Router

open Idealize.ShloMosaic

/-- The parent of an expert: experts come in eight groups of 64. -/
abbrev group (r : Fin 512) : Fin 8 := ⟨r.val / 64, by omega⟩

/-- The squared distance of two points given by their three coordinates. -/
def sqDist (p q : Fin 3 → EReal) : EReal :=
  (p 0 - q 0) * (p 0 - q 0) + (p 1 - q 1) * (p 1 - q 1) + (p 2 - q 2) * (p 2 - q 2)

/-- The scale of a temperature: twice its square plus a small constant. -/
def scaleOf (t : EReal) : EReal := Ideal.ofBits .f32 0x40000000#32 * (t * t) + Ideal.ofBits .f32 0x322BCC77#32

/-- The logarithm of a parent choice, kept from zero by a small constant. -/
def logOf (x : EReal) : EReal := Ideal.log (x + Ideal.ofBits .f32 0x2EDBE6FF#32)

/-- The score of expert `k` for token `b`: `pos` the tokens' positions, `t` the temperature, `pc` the tokens' choices of a parent,
    `ctr` the experts' centres. -/
def score (pos : (⟨2, ![16384, 3]⟩ : Shape).Idx → EReal) (t : EReal) (pc : (⟨2, ![16384, 8]⟩ : Shape).Idx → EReal)
    (ctr : (⟨2, ![512, 3]⟩ : Shape).Idx → EReal) (b : Fin 16384) (k : Fin 512) : EReal :=
  Ideal.div (-sqDist (fun a => pos (ix2 b a)) (fun a => ctr (ix2 k a))) (scaleOf t) + logOf (pc (ix2 b (group k)))

/-- A square is never negative, over the extended reals too. -/
theorem sq_nonneg (t : EReal) : 0 ≤ t * t := by
  rcases le_total 0 t with h | h
  · exact EReal.mul_nonneg h h
  · rw [← neg_mul_neg]
    exact EReal.mul_nonneg (EReal.neg_nonneg.mpr h) (EReal.neg_nonneg.mpr h)

/-- The scale is positive. -/
theorem scaleOf_pos (t : EReal) : 0 < scaleOf t := by
  have h2 : (0 : EReal) ≤ Ideal.ofBits .f32 0x40000000#32 := by
    simp [Ideal.ofBits, Ideal.ieee]
    rw [← EReal.coe_mul]
    exact EReal.coe_nonneg.mpr (by positivity)
  have he : (0 : EReal) < Ideal.ofBits .f32 0x322BCC77#32 := by
    simp [Ideal.ofBits, Ideal.ieee]
    rw [← EReal.coe_mul]
    exact EReal.coe_pos.mpr (by positivity)
  exact lt_of_lt_of_le he (le_add_of_nonneg_left (EReal.mul_nonneg h2 (sq_nonneg t)))

/-- Dividing by the negated scale is dividing the negated numerator by the scale. -/
theorem div_negated_scale (d t : EReal) : Ideal.div d (-scaleOf t) = Ideal.div (-d) (scaleOf t) := by
  have h : scaleOf t ≠ 0 := (scaleOf_pos t).ne'
  have h' : -scaleOf t ≠ 0 := fun e => h (EReal.neg_eq_zero_iff.mp e)
  simp only [Ideal.div, if_neg h, if_neg h', EReal.inv_neg, mul_neg, neg_mul]

end Cert.Router

end
-- ==== Proof.KernelBlock.lean ====
/-
  WHAT ONE BLOCK COMPUTES: the kernel's body at one grid point, read at an index over the extended reals. Its blocks are `x0`
  (the one scale factor, a negative number), `x1` (positions, a row per coordinate), `x2` (parent choices, a row per parent) and
  `x3` (centres, a column per coordinate). Column `c` of the block's 512 × 2048 table of scores (`scores`) is scored row by row by
  `blockScore`; the body stores, for each column, the index of its first maximum (`out5_apply`) and that index's indicator row
  (`out4_apply`).
-/
module

public import proofs.«01_k».proof.Proof.Score
public import proofs.«01_k».proof.Proof.Gen.KernelIdeal.Frame

@[expose] public section

noncomputable section

namespace Cert.Router

open Idealize.ShloMosaic Cert.KernelIdeal Cert.KernelIdeal.Gen

variable (x0 : Vec Ideal S1x1 .f32) (x1 : Vec Ideal S3x2048 .f32) (x2 : Vec Ideal S8x2048 .f32) (x3 : Vec Ideal S512x3 .f32)

/-- The score of row (expert) `r` in column (token) `c`: the squared distance over the scale factor, plus the logarithm of the
    choice of the row's parent. -/
def blockScore (c : Fin 2048) (r : Fin 512) : EReal :=
  Ideal.div (sqDist (fun a => x1 (ix2 a c)) (fun a => x3 (ix2 r a))) (x0 (ix2 0 0)) + logOf (x2 (ix2 (group r) c))

/-- One group of 64 rows of the table, for the groups whose sum the body writes out in place: the group's 64 quotients plus the
    row of its parent's logarithms. -/
def slab (off : Fin 2 → Nat) (h : S512x2048.Slices off S64x2048) (off' : Fin 2 → Nat) (h' : S8x2048.Slices off' S1x2048) :
    FVec Ideal S64x2048 .f32 :=
  addf (extractStridedSlice S64x2048 off (k0_pay10 x0 x1 x2 x3) h)
    (broadcastTo S64x2048 (extractStridedSlice S1x2048 off' (k0_pay11 x0 x1 x2 x3) h') broadcasts_S1x2048_S64x2048)

/-- The table of scores the body forms: the eight groups stacked. -/
def scores : FVec Ideal S512x2048 .f32 :=
  concatenate S512x2048 0
    [⟨S64x2048, slab x0 x1 x2 x3 ![0, 0] slices_S512x2048_o0_0_S64x2048 ![0, 0] slices_S8x2048_o0_0_S1x2048⟩,
     ⟨S64x2048, slab x0 x1 x2 x3 ![64, 0] slices_S512x2048_o64_0_S64x2048 ![1, 0] slices_S8x2048_o1_0_S1x2048⟩,
     ⟨S64x2048, slab x0 x1 x2 x3 ![128, 0] slices_S512x2048_o128_0_S64x2048 ![2, 0] slices_S8x2048_o2_0_S1x2048⟩,
     ⟨S64x2048, slab x0 x1 x2 x3 ![192, 0] slices_S512x2048_o192_0_S64x2048 ![3, 0] slices_S8x2048_o3_0_S1x2048⟩,
     ⟨S64x2048, slab x0 x1 x2 x3 ![256, 0] slices_S512x2048_o256_0_S64x2048 ![4, 0] slices_S8x2048_o4_0_S1x2048⟩,
     ⟨S64x2048, slab x0 x1 x2 x3 ![320, 0] slices_S512x2048_o320_0_S64x2048 ![5, 0] slices_S8x2048_o5_0_S1x2048⟩,
     ⟨S64x2048, slab x0 x1 x2 x3 ![384, 0] slices_S512x2048_o384_0_S64x2048 ![6, 0] slices_S8x2048_o6_0_S1x2048⟩,
     ⟨S64x2048, slab x0 x1 x2 x3 ![448, 0] slices_S512x2048_o448_0_S64x2048 ![7, 0] slices_S8x2048_o7_0_S1x2048⟩]
    concatenates_S64x2048_S64x2048_S64x2048_S64x2048_S64x2048_S64x2048_S64x2048_S64x2048_S512x2048_d0

/-- The quotients at an index. -/
theorem quotient_apply (r : Fin 512) (c : Fin 2048) : k0_pay10 x0 x1 x2 x3 (ix2 r c)
    = Ideal.div (sqDist (fun a => x1 (ix2 a c)) (fun a => x3 (ix2 r a))) (x0 (ix2 0 0)) := by
  pointwise [k0_pay10, k0_pay4, sqDist]

/-- The logarithms of the parent choices at an index. -/
theorem logChoice_apply (g : Fin 8) (c : Fin 2048) :
    k0_pay11 x0 x1 x2 x3 (ix2 g c) = logOf (x2 (ix2 g c)) := by
  pointwise [k0_pay11, k0_pay5, logOf]

/-- The table of scores at an index is `blockScore`: row `r` lies in the group `r / 64`. -/
theorem scores_apply (r : Fin 512) (c : Fin 2048) : scores x0 x1 x2 x3 (ix2 r c) = blockScore x0 x1 x2 x3 c r := by
  have key : ∀ (s : Fin 512) (g : Fin 8), s = r → g = group r →
      k0_pay10 x0 x1 x2 x3 (ix2 s c) + k0_pay11 x0 x1 x2 x3 (ix2 g c) = blockScore x0 x1 x2 x3 c r := by
    rintro _ _ rfl rfl
    rw [quotient_apply, logChoice_apply]; rfl
  pointwise [scores, slab]
  split_ifs <;> exact key _ _ (Fin.ext (by dsimp only <;> omega)) (Fin.ext (by simp <;> omega))

/-- The choice the body makes in column `c` is the index of the column's first maximum. -/
theorem choice_apply (c : Fin 2048) (k : Fin 512) (hk : FirstMax (blockScore x0 x1 x2 x3 c) k) :
    k0_pay1 (k0_pay10 x0 x1 x2 x3) (k0_pay11 x0 x1 x2 x3) (k0_pay12 x0 x1 x2 x3) (k0_pay13 x0 x1 x2 x3)
      (k0_pay14 x0 x1 x2 x3) (k0_pay15 x0 x1 x2 x3) (ix2 0 c) = BitVec.ofNat 32 k.val := by
  have hbot : Ideal.ofBits .f32 0xFF800000#32 = ⊥ := by simp [Ideal.ofBits, Ideal.ieee]
  show shapeCast S1x2048 (multiReductionI .minsi [0] S2048 (select (cmpf .oeq (scores x0 x1 x2 x3)
      (broadcastTo S512x2048 (shapeCast S1x2048 (multiReduction .maximumf [0] S2048 (scores x0 x1 x2 x3) 0xFF800000#32
        reduces_S512x2048_S2048 (.inl rfl) rfl) shapeCasts_S2048_S1x2048) broadcasts_S1x2048_S512x2048))
      (iota .tc S512x2048 32 [0] iota_S512x2048_d0_w32) (broadcast S512x2048 512#32)) 2147483647#32
      reduces_S512x2048_S2048 rfl) shapeCasts_S2048_S1x2048 (ix2 0 c) = _
  pointwise
  simp only [scores_apply, hbot]
  exact fold_minsi_eq hk _ (fold_max_eq hk)

/-- What the body leaves in the block of choices. -/
theorem out5_apply (c : Fin 2048) (k : Fin 512) (hk : FirstMax (blockScore x0 x1 x2 x3 c) k) :
    out0_5 x0 x1 x2 x3 (ix1 c) = BitVec.ofNat 32 k.val := by
  unfold out0_5
  rw [View.canon_unit_zero (funext fun a => by fin_cases a; rfl)]
  rw [← choice_apply x0 x1 x2 x3 c k hk]
  pointwise [k0_pay2]

/-- What the body leaves in the block of indicator rows: 1 at the choice, 0 elsewhere. -/
theorem out4_apply (c : Fin 2048) (l : Fin 512) (k : Fin 512) (hk : FirstMax (blockScore x0 x1 x2 x3 c) k) :
    out0_4 x0 x1 x2 x3 (ix2 c l) = if l = k then 1 else 0 := by
  unfold out0_4
  rw [View.canon_unit_zero (funext fun a => by fin_cases a <;> rfl)]
  pointwise [k0_pay3]
  rw [choice_apply x0 x1 x2 x3 c k hk]
  exact signed_indicator l k

end Cert.Router

end
-- ==== Proof.KernelArray.lean ====
/-
  WHAT THE RESULT ARRAYS HOLD: the blocks a grid point reads are rows of the arguments (`block0` … `block3`), so the score of a
  block is the score of its token (`blockScore_eq`), and an element of a result array is what the one grid point covering it wrote:
  row `b` is written by point `b / 2048`, at row `b % 2048` of its block (`indices_apply`, `rows_apply`).
-/
module

public import proofs.«01_k».proof.Proof.KernelBlock
public import Idealize.ShloMosaic.Lib.Pipeline.Value
public import Idealize.ShloMosaic.Lib.StableHlo.Run

@[expose] public section

noncomputable section

namespace Cert.Router

open Idealize.ShloMosaic Idealize.ShloMosaic.TcCoe Idealize.SL.Sem Cert.KernelIdeal Cert.KernelIdeal.Gen

variable (m : (ℓ : Loc nD τ sig) → Buf (Elt Ideal) ℓ) (c : Dev nD)

/-- The tokens' positions at launch. -/
abbrev pos : FVec Ideal S16384x3 .f32 := m ((c : Thread nD τ).loc main_arg0)
/-- The temperature at launch. -/
abbrev temp : FVec Ideal S_ .f32 := m ((c : Thread nD τ).loc main_arg1)
/-- The tokens' choices of a parent at launch. -/
abbrev par : FVec Ideal S16384x8 .f32 := m ((c : Thread nD τ).loc main_arg2)
/-- The experts' centres at launch. -/
abbrev ctr : FVec Ideal S512x3 .f32 := m ((c : Thread nD τ).loc main_arg4)

/-- What the host hands the kernel as its scale factor: the negated scale, as a one-element table. -/
theorem V_v4 : V m c main_v4 = shapeCast S1x1 (Host.negf (addf (mulf (constant S_ .f32 0x40000000#32) (mulf (temp m c) (temp m c)))
    (constant S_ .f32 0x322BCC77#32))) shapeCasts_S_S1x1 := by
  unfold V
  after_results_simp
  rfl

/-- What the host hands the kernel as positions: their transpose. -/
theorem V_v5 : V m c main_v5 = transpose S3x16384 [1, 0] (pos m c) transposes_S16384x3_S3x16384_1_0 := by
  unfold V
  after_results_simp

/-- What the host hands the kernel as parent choices: their transpose. -/
theorem V_v6 : V m c main_v6 = transpose S8x16384 [1, 0] (par m c) transposes_S16384x8_S8x16384_1_0 := by
  unfold V
  after_results_simp

/-- The token at row `r` of point `t`'s block. -/
abbrev token (t : Fin cfg0.N) (r : Fin 2048) : Fin 16384 :=
  ⟨t.val * 2048 + r.val, by have := t.isLt; have : cfg0.N = 8 := N_0; omega⟩

/-- The windows' block indices at point `t`: the moving axis is at `t`, every other at 0. -/
theorem index_at (t : Fin cfg0.N) :
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = 0)
    ∧ (win0_4.index t 0 = t.val ∧ win0_4.index t 1 = 0) ∧ win0_5.index t 0 = t.val := by
  rcases fin_N0 t with rfl | rfl | rfl | rfl | rfl | rfl | rfl | rfl <;> decide +kernel

/-- The scale factor's block. -/
theorem block0 (t : Fin cfg0.N) : iblk m c 0 t (ix2 0 0) = -scaleOf (temp m c ix0) := by
  unfold iblk
  rw [View.read_apply]
  show V m c main_v4 _ = _
  rw [V_v4]
  have e : ((cfg0.win 0).blk t).view.emb (ix2 0 0) = (ix2 0 0 : S1x1.Idx) := by
    funext a; apply Fin.ext
    match a with
    | ⟨0, _⟩ => show win0_0.index t 0 * 1 + 1 * 0 = 0; rw [(index_at t).1.1]
    | ⟨1, _⟩ => show win0_0.index t 1 * 1 + 1 * 0 = 0; rw [(index_at t).1.2]
  rw [e]
  pointwise [scaleOf]

/-- The positions' block: row `a` is coordinate `a` of the block's tokens. -/
theorem block1 (t : Fin cfg0.N) (a : Fin 3) (r : Fin 2048) : iblk m c 1 t (ix2 a r) = pos m c (ix2 (token t r) a) := by
  unfold iblk
  rw [View.read_apply]
  show V m c main_v5 _ = _
  rw [V_v5]
  have e : ((cfg0.win 1).blk t).view.emb (ix2 a r) = (ix2 a (token t r) : S3x16384.Idx) := by
    funext b; apply Fin.ext
    match b with
    | ⟨0, _⟩ => show win0_1.index t 0 * 3 + 1 * a.val = a.val; rw [(index_at t).2.1.1]; omega
    | ⟨1, _⟩ => show win0_1.index t 1 * 2048 + 1 * r.val = t.val * 2048 + r.val; rw [(index_at t).2.1.2]; omega
  rw [e]
  pointwise

/-- The parent choices' block: row `g` is choice `g` of the block's tokens. -/
theorem block2 (t : Fin cfg0.N) (g : Fin 8) (r : Fin 2048) : iblk m c 2 t (ix2 g r) = par m c (ix2 (token t r) g) := by
  unfold iblk
  rw [View.read_apply]
  show V m c main_v6 _ = _
  rw [V_v6]
  have e : ((cfg0.win 2).blk t).view.emb (ix2 g r) = (ix2 g (token t r) : S8x16384.Idx) := by
    funext b; apply Fin.ext
    match b with
    | ⟨0, _⟩ => show win0_2.index t 0 * 8 + 1 * g.val = g.val; rw [(index_at t).2.2.1.1]; omega
    | ⟨1, _⟩ => show win0_2.index t 1 * 2048 + 1 * r.val = t.val * 2048 + r.val; rw [(index_at t).2.2.1.2]; omega
  rw [e]
  pointwise

/-- The centres' block is the whole array. -/
theorem block3 (t : Fin cfg0.N) (k : Fin 512) (a : Fin 3) : iblk m c 3 t (ix2 k a) = ctr m c (ix2 k a) := by
  unfold iblk
  rw [View.read_apply]
  show V m c main_arg4 _ = _
  rw [V_main_arg4]
  have e : ((cfg0.win 3).blk t).view.emb (ix2 k a) = (ix2 k a : S512x3.Idx) := by
    funext b; apply Fin.ext
    match b with
    | ⟨0, _⟩ => show win0_3.index t 0 * 512 + 1 * k.val = k.val; rw [(index_at t).2.2.2.1.1]; omega
    | ⟨1, _⟩ => show win0_3.index t 1 * 3 + 1 * a.val = a.val; rw [(index_at t).2.2.2.1.2]; omega
  rw [e]

/-- The score in a block is the score of the token the block's column holds. -/
theorem blockScore_eq (t : Fin cfg0.N) (r : Fin 2048) :
    blockScore (iblk m c 0 t) (iblk m c 1 t) (iblk m c 2 t) (iblk m c 3 t) r
      = score (pos m c) (temp m c ix0) (par m c) (ctr m c) (token t r) := by
  funext k
  unfold blockScore score
  rw [block0, block2, div_negated_scale]
  congr 4 <;> funext a
  · exact block1 m c t a r
  · exact block3 m c t k a

/-- The array of indicator rows, after every point's write-back. -/
def resultRows : FVec Ideal S16384x512 .f32 := (dats m 0 c).arrAt 4 cfg0.N
/-- The array of indices, after every point's write-back. -/
def resultIndices : IVec S16384 32 := (dats m 0 c).arrAt 5 cfg0.N

/-- What point `t` writes back to the array of indicator rows: the block the body leaves. -/
theorem flushed_rows (t : Fin cfg0.N) : (dats m 0 c).flushed 4 t
    = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- What point `t` writes back to the array of indices: the block the body leaves. -/
theorem flushed_indices (t : Fin cfg0.N) : (dats m 0 c).flushed 5 t
    = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- Different points write different blocks of indicator rows. -/
theorem apart_rows (t t' : Fin cfg0.N) (h : t ≠ t') : Disjoint ((cfg0.win 4).blk t).view.set ((cfg0.win 4).blk t').view.set :=
  (cfg0.win 4).disjoint_blk fun e => h (Fin.ext (by
    have e0 : win0_4.index t 0 = win0_4.index t' 0 := congrFun e 0
    rwa [(index_at t).2.2.2.2.1.1, (index_at t').2.2.2.2.1.1] at e0))

/-- Different points write different blocks of indices. -/
theorem apart_indices (t t' : Fin cfg0.N) (h : t ≠ t') : Disjoint ((cfg0.win 5).blk t).view.set ((cfg0.win 5).blk t').view.set :=
  (cfg0.win 5).disjoint_blk fun e => h (Fin.ext (by
    have e0 : win0_5.index t 0 = win0_5.index t' 0 := congrFun e 0
    rwa [(index_at t).2.2.2.2.2, (index_at t').2.2.2.2.2] at e0))

/-- An element of the array of indices: its token's first maximum. -/
theorem indices_apply (b : Fin 16384) (k : Fin 512) (hk : FirstMax (score (pos m c) (temp m c ix0) (par m c) (ctr m c) b) k) :
    resultIndices m c (ix1 b) = BitVec.ofNat 32 k.val := by
  let t : Fin cfg0.N := ⟨b.val / 2048, by have : cfg0.N = 8 := N_0; omega⟩
  let r : Fin 2048 := ⟨b.val % 2048, by omega⟩
  have hb : token t r = b := Fin.ext (by show b.val / 2048 * 2048 + b.val % 2048 = b.val; omega)
  have h := congrFun ((dats m 0 c).read_blk_arrAt_eq_flushed 5 (fun t t' _ _ => apart_indices t t') cfg0.N t t.isLt (flush0_5 t)) (ix1 r)
  rw [View.read_apply, flushed_indices] at h
  have e : ((cfg0.win 5).blk t).view.emb (ix1 r) = (ix1 b : S16384.Idx) := by
    funext a; apply Fin.ext
    match a with
    | ⟨0, _⟩ =>
      show win0_5.index t 0 * 2048 + 1 * r.val = b.val
      rw [(index_at t).2.2.2.2.2, ← hb]; show _ = t.val * 2048 + r.val; omega
  rw [e] at h
  refine Eq.trans h ?_
  show out0_5 _ _ _ _ (ix1 r) = _
  exact out5_apply _ _ _ _ r k (by rw [blockScore_eq, hb]; exact hk)

/-- An element of the array of indicator rows: 1 at its token's first maximum, 0 elsewhere. -/
theorem rows_apply (b : Fin 16384) (l : Fin 512) (k : Fin 512)
    (hk : FirstMax (score (pos m c) (temp m c ix0) (par m c) (ctr m c) b) k) :
    resultRows m c (ix2 b l) = if l = k then 1 else 0 := by
  let t : Fin cfg0.N := ⟨b.val / 2048, by have : cfg0.N = 8 := N_0; omega⟩
  let r : Fin 2048 := ⟨b.val % 2048, by omega⟩
  have hb : token t r = b := Fin.ext (by show b.val / 2048 * 2048 + b.val % 2048 = b.val; omega)
  have h := congrFun ((dats m 0 c).read_blk_arrAt_eq_flushed 4 (fun t t' _ _ => apart_rows t t') cfg0.N t t.isLt (flush0_4 t)) (ix2 r l)
  rw [View.read_apply, flushed_rows] at h
  have e : ((cfg0.win 4).blk t).view.emb (ix2 r l) = (ix2 b l : S16384x512.Idx) := by
    funext a; apply Fin.ext
    match a with
    | ⟨0, _⟩ =>
      show win0_4.index t 0 * 2048 + 1 * r.val = b.val
      rw [(index_at t).2.2.2.2.1.1, ← hb]; show _ = t.val * 2048 + r.val; omega
    | ⟨1, _⟩ => show win0_4.index t 1 * 512 + 1 * l.val = l.val; rw [(index_at t).2.2.2.2.1.2]; omega
  rw [e] at h
  refine Eq.trans h ?_
  show out0_4 _ _ _ _ (ix2 r l) = _
  exact out4_apply _ _ _ _ r l k (by rw [blockScore_eq, hb]; exact hk)

/-- The run: both result arrays end as the grid's write-backs leave them, and the arguments are unchanged. -/
theorem kernel_run (ρ : Dev nD → PrngReg) : θ_run defs (onTc (τ := τ) (main (F := Ideal))) ⟨m, fun _ => 0, ρ⟩ fun r => ∀ c : Dev nD,
    r.2.mem ((c : Thread nD τ).loc main_v7_0) = resultRows m c
    ∧ r.2.mem ((c : Thread nD τ).loc main_v7_1) = resultIndices m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨(h c).1 4, (h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main m ρ)

end Cert.Router

end
-- ==== Proof.RefValue.lean ====
/-
  WHAT THE REFERENCE COMPUTES, at an index: a logit is the score (`logits_apply`), the index chosen in a row is the row's first
  maximum (`choice_apply`), and the indicator row holds 1 there and 0 elsewhere (`oneHot_apply`).
-/
module

public import proofs.«01_k».proof.Proof.Score
public import proofs.«01_k».proof.Proof.RefRun

@[expose] public section

noncomputable section

namespace Cert.Router.Ref

open Idealize.ShloMosaic Cert.ReferenceIdeal Cert.ReferenceIdeal.Gen

/-- A squared distance: the sum over the three coordinates, written out. -/
theorem dist2_apply (pos : FVec Ideal S16384x3 .f32) (ctr : FVec Ideal S512x3 .f32) (b : Fin 16384) (k : Fin 512) :
    dist2 pos ctr (ix2 b k) = sqDist (fun a => pos (ix2 b a)) (fun a => ctr (ix2 k a)) := by
  pointwise [dist2]
  rw [Fin.sum_univ_three]; rfl

/-- A parent choice, at each expert of the parent's group. -/
theorem spread_apply (pc : FVec Ideal S16384x8 .f32) (b : Fin 16384) (k : Fin 512) :
    spread pc (ix2 b k) = pc (ix2 b (group k)) := by
  pointwise [spread]

/-- A logit is the score. -/
theorem logits_apply (pos : FVec Ideal S16384x3 .f32) (t : FVec Ideal S_ .f32) (pc : FVec Ideal S16384x8 .f32)
    (ctr : FVec Ideal S512x3 .f32) (b : Fin 16384) (k : Fin 512) :
    logits pos t pc ctr (ix2 b k) = score pos (t ix0) pc ctr b k := by
  pointwise [logits, scale, score, scaleOf, logOf]
  rw [dist2_apply, spread_apply]

/-- The reducer of the reference's arg-max is `pick`: no extended real differs from itself. -/
theorem reducer_eq : (reducer_argmax_f32_i32 (F := Ideal)) = pick := by
  funext a b
  obtain ⟨x, i⟩ := a
  obtain ⟨y, j⟩ := b
  have hgt : (FloatOps.cmpf .ogt x y : BitVec 1) = if y < x then 1#1 else 0#1 := by
    simp only [Ideal.cmpf_def, Ideal.cmp]; split_ifs with h <;> simp [h]
  have hne : (FloatOps.cmpf .une x x : BitVec 1) = 0#1 := by simp [Ideal.cmpf_def, Ideal.cmp]
  have heq : (FloatOps.cmpf .oeq x y : BitVec 1) = if x = y then 1#1 else 0#1 := by
    simp only [Ideal.cmpf_def, Ideal.cmp]; split_ifs with h <;> simp [h]
  have hlt : IntOp.cmpi .slt i j = if i.toInt < j.toInt then 1#1 else 0#1 := by
    simp only [IntOp.cmpi, BitVec.slt]; split_ifs with h <;> simp [h]
  simp only [reducer_argmax_f32_i32, pick, hgt, hne, heq, hlt]
  by_cases h₁ : y < x <;> by_cases h₂ : x = y <;> by_cases h₃ : i.toInt < j.toInt <;>
    simp [h₁, h₂, h₃, IntOp.ori, IntOp.andi, Scalar.select]

/-- The entries of one row of a table, in order: those whose index drops to the row. -/
theorem row_entries (b : Fin 16384) :
    ((List.finRange S16384x512.numel).filter fun n => reducesTo_S16384x512_S16384_d1.drop (S16384x512.rowMajor.symm n) = ix1 b)
      = (List.finRange 512).map fun k => S16384x512.rowMajor (ix2 b k) := by
  have hmono : ((List.finRange 512).map fun k => S16384x512.rowMajor (ix2 b k)).Pairwise (· < ·) := by
    rw [List.pairwise_map]
    refine (List.pairwise_lt_finRange _).imp fun {k l} hkl => ?_
    show (_ : Fin _).val < (_ : Fin _).val
    rw [Shape.rowMajor_val_two, Shape.rowMajor_val_two]
    exact Nat.add_lt_add_left hkl _
  have hsub := (List.pairwise_lt_finRange S16384x512.numel).filter
    fun n => decide (reducesTo_S16384x512_S16384_d1.drop (S16384x512.rowMajor.symm n) = ix1 b)
  refine List.Perm.eq_of_pairwise (le := (· < ·)) (fun _ _ _ _ h h' => absurd h (lt_asymm h')) hsub hmono ?_
  refine (List.perm_ext_iff_of_nodup (hsub.imp fun h => h.ne) (hmono.imp fun h => h.ne)).mpr fun n => ?_
  simp only [List.mem_filter, List.mem_finRange, true_and, decide_eq_true_eq, List.mem_map]
  rw [Shape.ReducesTo.fiber_r2_a1]
  exact exists_congr fun k => (Equiv.eq_symm_apply _)

/-- The pairs the arg-max folds in one row: the entries, each with its column. -/
theorem row_pairs (L : FVec Ideal S16384x512 .f32) (b : Fin 16384) :
    Host.argReduceFiber L (iotaInDim S16384x512 32 1) reducesTo_S16384x512_S16384_d1 (ix1 b)
      = (List.finRange 512).map fun l => (L (ix2 b l), BitVec.ofNat 32 l.val) := by
  rw [Host.argReduceFiber, row_entries, List.map_map]
  refine List.map_congr_left fun l _ => ?_
  simp only [Function.comp_apply, Equiv.symm_apply_apply]
  pointwise

/-- The pair the fold of a row starts from. -/
theorem start_pair : ((constant S_ .f32 0xFF800000#32 : FVec Ideal S_ .f32) (Shape.Idx.first h_S_),
    (constantI S_ 32 0#32 : IVec S_ 32) (Shape.Idx.first h_S_)) = ((⊥ : EReal), 0#32) := by
  have hbot : Ideal.ofBits .f32 0xFF800000#32 = ⊥ := by simp [Ideal.ofBits, Ideal.ieee]
  rw [← hbot]; rfl

/-- The pair found in a row is the fold of `pick` along the row. -/
theorem best_apply (L : FVec Ideal S16384x512 .f32) (b : Fin 16384) :
    best L (ix1 b) = ((List.finRange 512).map fun l => (L (ix2 b l), BitVec.ofNat 32 l.val)).foldl pick (⊥, 0#32) := by
  rw [← row_pairs, ← reducer_eq, ← start_pair, ← Host.reduce2_eq_foldl_fiber]
  exact congrFun (Ideal.argReduce_eq_reduce2 ..) (ix1 b)

/-- A second component at an index. -/
theorem seconds_apply (p : S16384.Idx → Ideal .f32 × BitVec 32) (j : S16384.Idx) : seconds (F := Ideal) p j = (p j).2 := rfl

/-- The index chosen in a row is the row's first maximum. -/
theorem choice_apply (L : FVec Ideal S16384x512 .f32) (b : Fin 16384) (k : Fin 512) (hk : FirstMax (fun l => L (ix2 b l)) k) :
    choice L (ix1 b) = BitVec.ofNat 32 k.val := by
  obtain ⟨k', hk', hfold⟩ := foldl_eq fun l => L (ix2 b l)
  obtain rfl := hk.unique hk'
  exact (seconds_apply (best L) (ix1 b)).trans (by rw [best_apply, hfold])

/-- The indicator row of a chosen index: 1 there, 0 elsewhere. -/
theorem oneHot_apply (i : IVec S16384 32) (b : Fin 16384) (l : Fin 512) (k : Fin 512) (hk : i (ix1 b) = BitVec.ofNat 32 k.val) :
    oneHot (F := Ideal) i (ix2 b l) = if l = k then 1 else 0 := by
  pointwise [oneHot]
  rw [hk]
  exact unsigned_indicator l k

end Cert.Router.Ref

end
-- ==== Proof.Equation.lean ====
/-
  THE EQUATION: in every row both programs find the first maximum of the same scores, so the kernel's two result arrays are the
  reference's `choice` and `oneHot` of the table of logits of the same arguments.
-/
module

public import proofs.«01_k».proof.Proof.KernelArray
public import proofs.«01_k».proof.Proof.RefValue

@[expose] public section

noncomputable section

namespace Cert.Router

open Idealize.ShloMosaic Idealize.ShloMosaic.TcCoe Cert.KernelIdeal Cert.KernelIdeal.Gen

variable (m : (ℓ : Loc nD τ sig) → Buf (Elt Ideal) ℓ) (c : Dev nD)

/-- The reference's table of logits of the kernel's arguments. -/
abbrev argLogits : FVec Ideal S16384x512 .f32 := Ref.logits (pos m c) (temp m c) (par m c) (ctr m c)

/-- The index the reference chooses in row `b`: the first maximum of the row's scores. -/
theorem choice_row (b : Fin 16384) (k : Fin 512) (hk : FirstMax (score (pos m c) (temp m c ix0) (par m c) (ctr m c) b) k) :
    Ref.choice (argLogits m c) (ix1 b) = BitVec.ofNat 32 k.val := by
  refine Ref.choice_apply _ b k ?_
  have e : (fun l => argLogits m c (ix2 b l)) = score (pos m c) (temp m c ix0) (par m c) (ctr m c) b :=
    funext fun l => Ref.logits_apply ..
  rw [e]
  exact hk

/-- The kernel's array of indices is the reference's. -/
theorem indices_eq : resultIndices m c = Ref.choice (argLogits m c) := by
  funext i
  obtain ⟨b, rfl⟩ : ∃ b : Fin 16384, i = ix1 b := ⟨_, eq_ix1 i⟩
  obtain ⟨k, hk, -⟩ := foldl_eq (score (pos m c) (temp m c ix0) (par m c) (ctr m c) b)
  exact (indices_apply m c b k hk).trans (choice_row m c b k hk).symm

/-- The kernel's array of indicator rows is the reference's. -/
theorem rows_eq : resultRows m c = Ref.oneHot (Ref.choice (argLogits m c)) := by
  funext i
  obtain ⟨b, l, rfl⟩ : ∃ (b : Fin 16384) (l : Fin 512), i = ix2 b l := ⟨_, _, eq_ix2 i⟩
  obtain ⟨k, hk, -⟩ := foldl_eq (score (pos m c) (temp m c ix0) (par m c) (ctr m c) b)
  exact (rows_apply m c b l k hk).trans (Ref.oneHot_apply _ b l k (choice_row m c b k hk)).symm

end Cert.Router

end
-- ==== Proof.lean ====
/-
  THE FIVE CLAIMS. The frames of the kernel, at bits and at extended reals, are the generated ones; the reference's frame and both
  sides of the equality come from `Ref.run` and `kernel_run`, and `rows_eq` and `indices_eq` equate the results.
-/
module

public import proofs.«01_k».proof.Defs
public import proofs.«01_k».proof.Proof.Gen.Kernel.Frame
public import proofs.«01_k».proof.Proof.RefRun
public import proofs.«01_k».proof.Proof.Equation

@[expose] public section

noncomputable section

namespace Cert.Proof

open Idealize.ShloMosaic Idealize.ShloMosaic.TcCoe Idealize.SL.Sem Cert.Router

attribute [local instance] Cert.Kernel.Gen.facts Cert.KernelIdeal.Gen.facts Cert.ReferenceIdeal.Gen.facts

/-- The reference runs, changes no argument and leaves every counter at zero. -/
theorem reference_frame : Cert.quiescent_ReferenceIdeal := fun m ρ _ =>
  (θ_run _ _ _).mono (fun _ h => ⟨fun c => (h.1 c).2.2, h.2⟩) (Ref.run m ρ)

/-- From memories that agree on the arguments the reference's table of logits is that of the kernel's arguments. -/
theorem table_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = pos m c)
    (h1 : m' ((c.tc : Thread Cert.ReferenceIdeal.nD Cert.ReferenceIdeal.τ).loc Cert.ReferenceIdeal.main_arg1) = temp m c)
    (h2 : m' ((c.tc : Thread Cert.ReferenceIdeal.nD Cert.ReferenceIdeal.τ).loc Cert.ReferenceIdeal.main_arg2) = par m c)
    (h4 : m' ((c.tc : Thread Cert.ReferenceIdeal.nD Cert.ReferenceIdeal.τ).loc Cert.ReferenceIdeal.main_arg4) = ctr m c) :
    Ref.table (StableHlo.launchContents m' c) = argLogits m c := by
  unfold argLogits
  rw [← h0, ← h1, ← h2, ← h4]

/-- The kernel and the reference end with equal results. -/
theorem equal_results : Cert.algebraic_KernelIdeal_ReferenceIdeal := fun m ρ m' ρ' _ hargs =>
  have ht := fun c => table_eq m m' c (hargs c).1 (hargs c).2.1 (hargs c).2.2.1 (hargs c).2.2.2.2.1
  ⟨fun c => resultRows m c, fun c => resultIndices m c, kernel_run m ρ,
    (θ_run _ _ _).mono (fun _ h c =>
      ⟨((h.1 c).1.trans (congrArg (fun L => Ref.oneHot (Ref.choice L)) (ht c))).trans (rows_eq m c).symm,
        ((h.1 c).2.1.trans (congrArg Ref.choice (ht c))).trans (indices_eq m c).symm, (h.1 c).2.2⟩) (Ref.run m' ρ')⟩

/-- The five claims together. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, equal_results⟩

end Cert.Proof

end
